-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sites_count_from_zero [hPre_sites_count_from_zero : Cert.Pre_sites_count_from_zero.Facts] (m : (ℓ : Loc Cert.KernelIdeal.nD Cert.KernelIdeal.τ Cert.KernelIdeal.sig) → Buf (Elt Ideal) ℓ) : Prop :=
  ∀ c : Dev Cert.KernelIdeal.nD,
    (Cert.Pre_sites_count_from_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sites_count_from_zero [hPre_sites_count_from_zero : Cert.Pre_sites_count_from_zero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sites_count_from_zero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sites_count_from_zero [hKernelIdeal : Cert.KernelIdeal.Facts] [hPre_sites_count_from_zero : Cert.Pre_sites_count_from_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sites_count_from_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sites_count_from_zero [hReferenceIdeal : Cert.ReferenceIdeal.Facts] [hPre_sites_count_from_zero : Cert.Pre_sites_count_from_zero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sites_count_from_zero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sites_count_from_zero [hKernelIdeal : Cert.KernelIdeal.Facts] [hReferenceIdeal : Cert.ReferenceIdeal.Facts] [hPre_sites_count_from_zero : Cert.Pre_sites_count_from_zero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sites_count_from_zero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sites_count_from_zero : Cert.Pre_sites_count_from_zero.Facts),
    quiescent_Kernel (hKernel := hKernel)
    ∧ quiescent_KernelIdeal (hKernelIdeal := hKernelIdeal)
    ∧ quiescent_KernelIdeal_pre_sites_count_from_zero (hKernelIdeal := hKernelIdeal) (hPre_sites_count_from_zero := hPre_sites_count_from_zero)
    ∧ quiescent_ReferenceIdeal (hReferenceIdeal := hReferenceIdeal)
    ∧ quiescent_ReferenceIdeal_pre_sites_count_from_zero (hReferenceIdeal := hReferenceIdeal) (hPre_sites_count_from_zero := hPre_sites_count_from_zero)
    ∧ preserves_Kernel_KernelIdeal
    ∧ algebraic_KernelIdeal_ReferenceIdeal_pre_sites_count_from_zero (hKernelIdeal := hKernelIdeal) (hReferenceIdeal := hReferenceIdeal) (hPre_sites_count_from_zero := hPre_sites_count_from_zero)
-- ==== Pre_sites_count_from_zero.lean ====
abbrev S3x4096x4096 : Shape := ⟨3, ![3, 4096, 4096]⟩
abbrev S1228 : Shape := ⟨1, ![1228]⟩
abbrev S_ : Shape := ⟨0, ![]⟩

class Facts : Prop where
  bcast_S_S1228 : S_.BroadcastsInDim S1228 (![] : Fin 0 → Fin S1228.rank)

variable [Facts]

def fn {F : FTy → Type} [FloatOps F] (main_arg0 : FVec F S3x4096x4096 .f32) (main_arg1 : IVec S1228 32) : IVec S1228 1 :=
  let main_c : IVec S_ 32 := constantI S_ 32 0#32
  let main_v0 : IVec S1228 32 := broadcastInDim S1228 ![] bcast_S_S1228 main_c
  let main_v1 : IVec S1228 1 := cmpi .sge main_arg1 main_v0
  main_v1
-- ==== Kernel.lean ====
abbrev S3x4096x4096 : Shape := ⟨3, ![3, 4096, 4096]⟩
abbrev S1228 : Shape := ⟨1, ![1228]⟩
abbrev S_ : Shape := ⟨0, ![]⟩
abbrev S52 : Shape := ⟨1, ![52]⟩
abbrev S1280 : Shape := ⟨1, ![1280]⟩
abbrev S1280x1 : Shape := ⟨2, ![1280, 1]⟩
abbrev S1280x128 : Shape := ⟨2, ![1280, 128]⟩
abbrev S1x512x4096 : Shape := ⟨3, ![1, 512, 4096]⟩
abbrev S8x4096 : Shape := ⟨2, ![8, 4096]⟩
abbrev S8x1 : Shape := ⟨2, ![8, 1]⟩
abbrev S4096 : Shape := ⟨1, ![4096]⟩
abbrev S1x4096 : Shape := ⟨2, ![1, 4096]⟩
abbrev S1x1x4096 : Shape := ⟨3, ![1, 1, 4096]⟩

abbrev nBuf : Space → Nat
  | .hbm => 8
  | .vmem => 6
  | .smem => 0
  | _ => 0

abbrev bufTy : (tb : Table) → Fin (tcTables nBuf tb) → BufTy
  | .hbm, ⟨0, _⟩ => ⟨S3x4096x4096, .f32⟩
  | .hbm, ⟨1, _⟩ => ⟨S1228, .i32⟩
  | .hbm, ⟨2, _⟩ => ⟨S_, .i32⟩
  | .hbm, ⟨3, _⟩ => ⟨S52, .i32⟩
  | .hbm, ⟨4, _⟩ => ⟨S1280, .i32⟩
  | .hbm, ⟨5, _⟩ => ⟨S1280x1, .i32⟩
  | .hbm, ⟨6, _⟩ => ⟨S1280x128, .i32⟩
  | .hbm, ⟨7, _⟩ => ⟨S3x4096x4096, .f32⟩
  | .local _ .vmem, ⟨0, _⟩ => ⟨S1280x128, .i32⟩
  | .local _ .vmem, ⟨1, _⟩ => ⟨S1x512x4096, .f32⟩
  | .local _ .vmem, ⟨2, _⟩ => ⟨S1x512x4096, .f32⟩
  | .local _ .vmem, ⟨3, _⟩ => ⟨S1x512x4096, .f32⟩
  | .local _ .vmem, ⟨4, _⟩ => ⟨S1x512x4096, .f32⟩
  | .local _ .vmem, ⟨5, _⟩ => ⟨S8x4096, .f32⟩
  | _, _ => ⟨S3x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k0_t1_loop : Scf.Loop 32 :=
  let c0_i32_7 : BitVec 32 := 0#32
  let c160_i32 : BitVec 32 := 160#32
  let v13 : BitVec 32 := Scalar.addi c0_i32_7 c160_i32
  let c1_i32 : BitVec 32 := 1#32
  ⟨c0_i32_7, v13, c1_i32⟩
def k0_off1 (k0_t1 : Fin k0_t1_loop.trips) : Fin 2 → Nat :=
  let c0_i32_7 : BitVec 32 := 0#32
  let c1_i32 : BitVec 32 := 1#32
  let arg6 : BitVec 32 := Scf.iv c0_i32_7 c1_i32 k0_t1
  let c8_i32 : BitVec 32 := 8#32
  let v23 : BitVec 32 := Scalar.muli arg6 c8_i32
  let v24 : Index := Scalar.indexCast v23
  let c0_10 : Index := 0#32
  ![v24.toNat, 0]
def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg0 : BitVec 32 := BitVec.ofNat 32 (i 0).val
  let c0_i32_4 : BitVec 32 := 0#32
  let v8 : BitVec 1 := Scalar.cmpi .ne arg0 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1280x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S3x4096x4096 : Shape := ⟨3, ![3, 4096, 4096]⟩
abbrev S1228 : Shape := ⟨1, ![1228]⟩
abbrev S_ : Shape := ⟨0, ![]⟩
abbrev S1228x1 : Shape := ⟨2, ![1228, 1]⟩
abbrev S1228x2 : Shape := ⟨2, ![1228, 2]⟩
abbrev S1228x4096 : Shape := ⟨2, ![1228, 4096]⟩

abbrev nBuf : Space → Nat
  | .hbm => 33
  | .vmem => 0
  | .smem => 0
  | _ => 0

abbrev bufTy : (tb : Table) → Fin (tcTables nBuf tb) → BufTy
  | .hbm, ⟨0, _⟩ => ⟨S3x4096x4096, .f32⟩
  | .hbm, ⟨1, _⟩ => ⟨S1228, .i32⟩
  | .hbm, ⟨2, _⟩ => ⟨S_, .i32⟩
  | .hbm, ⟨3, _⟩ => ⟨S1228, .i32⟩
  | .hbm, ⟨4, _⟩ => ⟨S1228, .i1⟩
  | .hbm, ⟨5, _⟩ => ⟨S_, .i32⟩
  | .hbm, ⟨6, _⟩ => ⟨S1228, .i32⟩
  | .hbm, ⟨7, _⟩ => ⟨S1228, .i32⟩
  | .hbm, ⟨8, _⟩ => ⟨S1228, .i32⟩
  | .hbm, ⟨9, _⟩ => ⟨S_, .i32⟩
  | .hbm, ⟨10, _⟩ => ⟨S1228, .i32⟩
  | .hbm, ⟨11, _⟩ => ⟨S1228, .i32⟩
  | .hbm, ⟨12, _⟩ => ⟨S1228x1, .i32⟩
  | .hbm, ⟨13, _⟩ => ⟨S1228x1, .i32⟩
  | .hbm, ⟨14, _⟩ => ⟨S1228x2, .i32⟩
  | .hbm, ⟨15, _⟩ => ⟨S1228x4096, .f32⟩
  | .hbm, ⟨16, _⟩ => ⟨S_, .f32⟩
  | .hbm, ⟨17, _⟩ => ⟨S1228x4096, .f32⟩
  | .hbm, ⟨18, _⟩ => ⟨S1228x4096, .f32⟩
  | .hbm, ⟨19, _⟩ => ⟨S_, .i32⟩
  | .hbm, ⟨20, _⟩ => ⟨S1228, .i32⟩
  | .hbm, ⟨21, _⟩ => ⟨S1228, .i1⟩
  | .hbm, ⟨22, _⟩ => ⟨S_, .i32⟩
  | .hbm, ⟨23, _⟩ => ⟨S1228, .i32⟩
  | .hbm, ⟨24, _⟩ => ⟨S1228, .i32⟩
  | .hbm, ⟨25, _⟩ => ⟨S1228, .i32⟩
  | .hbm, ⟨26, _⟩ => ⟨S_, .i32⟩
  | .hbm, ⟨27, _⟩ => ⟨S1228, .i32⟩
  | .hbm, ⟨28, _⟩ => ⟨S1228, .i32⟩
  | .hbm, ⟨29, _⟩ => ⟨S1228x1, .i32⟩
  | .hbm, ⟨30, _⟩ => ⟨S1228x1, .i32⟩
  | .hbm, ⟨31, _⟩ => ⟨S1228x2, .i32⟩
  | .hbm, ⟨32, _⟩ => ⟨S3x4096x4096, .f32⟩
  | _, _ => ⟨S3x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.Block.lean ====
/-
  What one block of the kernel computes, at each of the three kinds of grid point: the first point, the later blocks of channel 0, the other channels.
-/
module

public import proofs.«01_k».proof.Proof.Gen.KernelIdeal.Value
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Flip

open Cert.KernelIdeal Cert.KernelIdeal.Gen

variable {F : FTy → Type} [FloatOps F]

/-- The zero offsets of a rank-2 access. -/
theorem hz2 : (![0, 0] : Fin 2 → Nat) = fun _ => 0 := funext fun a => by fin_cases a <;> rfl

/-- The zero offsets of a rank-3 access. -/
theorem hz3 : (![0, 0, 0] : Fin 3 → Nat) = fun _ => 0 := funext fun a => by fin_cases a <;> rfl

/-- The first row of an `8 × 4096` array, as the body loads it. -/
abbrev row0 (xs : Vec F S8x4096 .f32) : Vec F S1x4096 .f32 :=
  View.ld xs (Rect.unit (s := S8x4096) ![0, 0] S1x4096.size inb_S8x4096_S1x4096_0_0)

/-- Where the channel is not 0, the body copies its input block. -/
theorem out_C (c : Dev nD) (i : grid0.Coords) (arg2 : Memref sig .tc .vmem S1280x128 .i32) (harg2 : arg2.IsWhole) (arg3 : Memref sig .tc .vmem S1x512x4096 .f32) (harg3 : arg3.IsWhole)
    (arg4 : Memref sig .tc .vmem S1x512x4096 .f32) (harg4 : arg4.IsWhole) (arg5 : Memref sig .tc .vmem S8x4096 .f32) (harg5 : arg5.IsWhole)
    (hc0 : ¬cond0_0 i) (hc1 : ¬cond0_1 i) (hc2 : cond0_2 i) (x0 : Vec F S1280x128 .i32) (x1 : Vec F S1x512x4096 .f32) (xs0 : Vec F S8x4096 .f32) :
    out0_C_2 c i arg2 harg2 arg3 harg3 arg4 harg4 arg5 harg5 hc0 hc1 hc2 x0 x1 xs0 = x1 := by
  unfold out0_C_2
  rw [View.read_writes_eq_canon _ _ _ (cover0_C_2 c i arg2 harg2 arg3 harg3 arg4 harg4 arg5 harg5 hc0 hc1 hc2 x0 x1 xs0)]
  unfold kernelRun0_C
  dsimp only
  sl_unfold_words
  rw [View.canon_unit_zero hz3]
  simp only [View.readAt_eq_ld, harg3.read_unread, View.ld_unit_zero (S := S1x512x4096) hz3]

/-- At the later blocks of channel 0 the body applies the flip to its input block, with the first row of the scratch as the mask. -/
theorem out_B (c : Dev nD) (i : grid0.Coords) (arg2 : Memref sig .tc .vmem S1280x128 .i32) (harg2 : arg2.IsWhole) (arg3 : Memref sig .tc .vmem S1x512x4096 .f32) (harg3 : arg3.IsWhole)
    (arg4 : Memref sig .tc .vmem S1x512x4096 .f32) (harg4 : arg4.IsWhole) (arg5 : Memref sig .tc .vmem S8x4096 .f32) (harg5 : arg5.IsWhole)
    (hc0 : ¬cond0_0 i) (hc1 : cond0_1 i) (hc2 : ¬cond0_2 i) (x0 : Vec F S1280x128 .i32) (x1 : Vec F S1x512x4096 .f32) (xs0 : Vec F S8x4096 .f32) :
    out0_B_2 c i arg2 harg2 arg3 harg3 arg4 harg4 arg5 harg5 hc0 hc1 hc2 x0 x1 xs0 = k0_pay4 (row0 xs0) x1 := by
  unfold out0_B_2
  rw [View.read_writes_eq_canon _ _ _ (cover0_B_2 c i arg2 harg2 arg3 harg3 arg4 harg4 arg5 harg5 hc0 hc1 hc2 x0 x1 xs0)]
  unfold kernelRun0_B
  dsimp only
  sl_unfold_words
  rw [View.canon_unit_zero hz3]
  simp only [View.readAt_eq_ld, harg3.read_unread, harg5.read_unread, View.ld_unit_zero (S := S1x512x4096) hz3]

/-- What the loop over the site table `x0` carries before trip `k`. -/
abbrev marks (c : Dev nD) (i : grid0.Coords) (arg2 : Memref sig .tc .vmem S1280x128 .i32) (harg2 : arg2.IsWhole) (arg3 : Memref sig .tc .vmem S1x512x4096 .f32) (harg3 : arg3.IsWhole)
    (arg4 : Memref sig .tc .vmem S1x512x4096 .f32) (harg4 : arg4.IsWhole) (arg5 : Memref sig .tc .vmem S8x4096 .f32) (harg5 : arg5.IsWhole)
    (hc0 : cond0_0 i) (x0 : Vec F S1280x128 .i32) (k : ℕ) : IVec S8x4096 32 :=
  st_k0_t1 (F := F) Variants.none c none i arg2 harg2 arg3 harg3 arg4 harg4 arg5 harg5 hc0 (harg2.unread x0) k0_pay1 k

/-- The first point leaves in the scratch the mask made of the loop's result. -/
theorem sout_A (c : Dev nD) (i : grid0.Coords) (arg2 : Memref sig .tc .vmem S1280x128 .i32) (harg2 : arg2.IsWhole) (arg3 : Memref sig .tc .vmem S1x512x4096 .f32) (harg3 : arg3.IsWhole)
    (arg4 : Memref sig .tc .vmem S1x512x4096 .f32) (harg4 : arg4.IsWhole) (arg5 : Memref sig .tc .vmem S8x4096 .f32) (harg5 : arg5.IsWhole)
    (hc0 : cond0_0 i) (hc1 : cond0_1 i) (hc2 : ¬cond0_2 i) (x0 : Vec F S1280x128 .i32) (x1 : Vec F S1x512x4096 .f32) :
    sout0_A_0 c i arg2 harg2 arg3 harg3 arg4 harg4 arg5 harg5 hc0 hc1 hc2 x0 x1
      = k0_pay3 (marks c i arg2 harg2 arg3 harg3 arg4 harg4 arg5 harg5 hc0 x0 k0_t1_loop.trips) := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  rw [View.canon_unit_zero hz2]

/-- The first point applies the flip to its input block, with the first row of that mask. -/
theorem out_A (c : Dev nD) (i : grid0.Coords) (arg2 : Memref sig .tc .vmem S1280x128 .i32) (harg2 : arg2.IsWhole) (arg3 : Memref sig .tc .vmem S1x512x4096 .f32) (harg3 : arg3.IsWhole)
    (arg4 : Memref sig .tc .vmem S1x512x4096 .f32) (harg4 : arg4.IsWhole) (arg5 : Memref sig .tc .vmem S8x4096 .f32) (harg5 : arg5.IsWhole)
    (hc0 : cond0_0 i) (hc1 : cond0_1 i) (hc2 : ¬cond0_2 i) (x0 : Vec F S1280x128 .i32) (x1 : Vec F S1x512x4096 .f32) :
    out0_A_2 c i arg2 harg2 arg3 harg3 arg4 harg4 arg5 harg5 hc0 hc1 hc2 x0 x1
      = k0_pay4 (row0 (k0_pay3 (marks c i arg2 harg2 arg3 harg3 arg4 harg4 arg5 harg5 hc0 x0 k0_t1_loop.trips))) x1 := by
  unfold out0_A_2
  rw [View.read_writes_eq_canon _ _ _ (cover0_A_2 c i arg2 harg2 arg3 harg3 arg4 harg4 arg5 harg5 hc0 hc1 hc2 x0 x1)]
  unfold kernelRun0_A
  dsimp only
  sl_unfold_words
  rw [View.canon_unit_zero hz3]
  simp only [View.readAt_eq_ld, harg3.read_unread, View.ld_unit_zero (S := S1x512x4096) hz3]
  rw [View.readCov_eq_canon', View.canon_unit_zero hz2]
  rfl

/-- One trip of the loop: the eight words of the table at row `8 * k`, compared with the column numbers and or-ed into what the loop carries. -/
theorem marks_succ (c : Dev nD) (i : grid0.Coords) (arg2 : Memref sig .tc .vmem S1280x128 .i32) (harg2 : arg2.IsWhole) (arg3 : Memref sig .tc .vmem S1x512x4096 .f32) (harg3 : arg3.IsWhole)
    (arg4 : Memref sig .tc .vmem S1x512x4096 .f32) (harg4 : arg4.IsWhole) (arg5 : Memref sig .tc .vmem S8x4096 .f32) (harg5 : arg5.IsWhole)
    (hc0 : cond0_0 i) (x0 : Vec F S1280x128 .i32) (k : Fin k0_t1_loop.trips) :
    marks c i arg2 harg2 arg3 harg3 arg4 harg4 arg5 harg5 hc0 x0 (k.val + 1)
      = k0_pay2 (F := F) (marks c i arg2 harg2 arg3 harg3 arg4 harg4 arg5 harg5 hc0 x0 k.val)
          (View.ld x0 (Rect.unit (s := S1280x128) (k0_off1 k) S8x1.size (k0_off1_inb i k hc0))) := by
  unfold marks
  rw [st_k0_t1_succ]
  unfold tripR_k0_t1 trip_k0_t1
  dsimp only
  simp only [View.readAt_eq_ld, harg2.read_unread]

end Cert.KernelIdeal.Flip

end
-- ==== Proof.Mask.lean ====
/-
  The mask: what the loop over the site table carries, and that the mask is above one half at a column exactly where the table holds that column's number.
-/
module

public import proofs.«01_k».proof.Proof.Block
public import Idealize.ShloMosaic.Lib.Pointwise
public import Idealize.ShloMosaic.Lib.WordCmp
public import Idealize.ShloMosaic.Lib.IdealHost

@[expose] public section

noncomputable section

open Idealize.ShloMosaic Idealize.ShloMosaic.TcCoe Idealize.SL.Sem

namespace Cert.KernelIdeal.Flip

open Cert.KernelIdeal Cert.KernelIdeal.Gen

variable {F : FTy → Type} [FloatOps F]

/-- One trip's or, at a row and a column: bit 0 is set where the row's word is the column's number. -/
theorem pay2_apply (acc : IVec S8x4096 32) (v : Vec F S8x1 .i32) (r : Fin 8) (j : Fin 4096) :
    k0_pay2 (F := F) acc v (ix2 r j)
      = IntOp.ori (acc (ix2 r j)) (BitVec.setWidth 32 (IntOp.cmpi .eq (v (ix2 r (0 : Fin 1)) : BitVec 32) (BitVec.ofNat 32 j.val))) := by
  unfold k0_pay2
  simp only [pointwise]
  have hj : List.foldl (fun n a => n * (![8, 4096] : Fin 2 → ℕ) a + ((ix2 r j : S8x4096.Idx) a).val) 0 [1] = j.val := by
    simp only [List.foldl_cons, List.foldl_nil, Nat.zero_mul, Nat.zero_add]
    rfl
  exact congrArg (fun n => IntOp.ori (acc (ix2 r j)) (BitVec.setWidth 32 (IntOp.cmpi .eq (v (ix2 r (0 : Fin 1)) : BitVec 32) (BitVec.ofNat 32 n)))) hj

/-- The flip of one block: `1 - x` where the mask's row is above one half, `x` elsewhere. -/
theorem pay4_apply (v11 : Vec Ideal S1x4096 .f32) (v13 : Vec Ideal S1x512x4096 .f32) (a : Fin 1) (h : Fin 512) (j : Fin 4096) :
    k0_pay4 (F := Ideal) v11 v13 (ix3 a h j)
      = if Ideal.ofBits .f32 0x3F000000#32 < (v11 (ix2 (0 : Fin 1) j) : EReal) then (1 : EReal) - v13 (ix3 a h j) else v13 (ix3 a h j) := by
  unfold k0_pay4
  simp only [pointwise]
  rfl

/-- The mask at a column: the largest of the eight rows' words there, as a number. -/
theorem pay3_apply (v : IVec S8x4096 32) (r : Fin 8) (j : Fin 4096) :
    k0_pay3 (F := Ideal) v (ix2 r j)
      = ((((Finset.univ : Finset (Fin 8)).fold IntOp.maxsi 2147483648#32 fun k => v (ix2 k j)).toInt : ℝ) : EReal) := by
  unfold k0_pay3
  simp only [pointwise]
  rfl

/-- The constant the mask is compared with is one half. -/
theorem ofBits_half : Ideal.ofBits .f32 0x3F000000#32 = (((1 / 2 : ℝ)) : EReal) := by
  simp [Ideal.ofBits, Ideal.ieee, -EReal.coe_mul]; norm_num

/-- The mask is above one half exactly where one of the eight rows' words is positive. -/
theorem pay3_gt (v : IVec S8x4096 32) (r : Fin 8) (j : Fin 4096) :
    Ideal.ofBits .f32 0x3F000000#32 < (k0_pay3 (F := Ideal) v (ix2 r j) : EReal) ↔ ∃ k : Fin 8, 0 < (v (ix2 k j)).toInt := by
  have hor : ∀ {x y z : BitVec 32}, 0 < (IntOp.maxsi y z).toInt ↔ 0 < y.toInt ∨ 0 < z.toInt := by
    intro x y z
    unfold IntOp.maxsi
    split <;> rename_i h <;> simp only [BitVec.slt, decide_eq_true_eq] at h <;> omega
  have hf : 0 < ((Finset.univ : Finset (Fin 8)).fold IntOp.maxsi 2147483648#32 fun k => v (ix2 k j)).toInt ↔ ∃ k : Fin 8, 0 < (v (ix2 k j)).toInt := by
    have := Finset.fold_op_rel_iff_or (op := IntOp.maxsi) (r := fun (_ y : BitVec 32) => 0 < y.toInt) (fun {x y z} => hor (x := x) (y := y) (z := z)) (c := 0#32)
      (s := (Finset.univ : Finset (Fin 8))) (b := 2147483648#32) (f := fun k => v (ix2 k j))
    rw [this]
    constructor
    · rintro (h | ⟨k, _, h⟩)
      · exact absurd h (by decide)
      · exact ⟨k, h⟩
    · rintro ⟨k, h⟩
      exact Or.inr ⟨k, Finset.mem_univ k, h⟩
  rw [pay3_apply, ofBits_half, EReal.coe_lt_coe_iff, ← hf]
  generalize ((Finset.univ : Finset (Fin 8)).fold IntOp.maxsi 2147483648#32 fun k => v (ix2 k j)).toInt = n
  constructor
  · intro h
    by_contra hn
    have : (n : ℝ) ≤ 0 := by exact_mod_cast not_lt.1 hn
    linarith
  · intro h
    have : (1 : ℝ) ≤ n := by exact_mod_cast h
    linarith

/-- What the loop carries before trip `k`, at row `r` and column `j`: 1 where one of the table's words `r`, `8 + r`, …, `8 * (k - 1) + r` is the column's number, 0 elsewhere. -/
theorem marks_apply (c : Dev nD) (i : grid0.Coords) (arg2 : Memref sig .tc .vmem S1280x128 .i32) (harg2 : arg2.IsWhole) (arg3 : Memref sig .tc .vmem S1x512x4096 .f32) (harg3 : arg3.IsWhole)
    (arg4 : Memref sig .tc .vmem S1x512x4096 .f32) (harg4 : arg4.IsWhole) (arg5 : Memref sig .tc .vmem S8x4096 .f32) (harg5 : arg5.IsWhole)
    (hc0 : cond0_0 i) (x0 : Vec F S1280x128 .i32) (r : Fin 8) (j : Fin 4096) (k : ℕ) (hk : k ≤ 160) :
    marks c i arg2 harg2 arg3 harg3 arg4 harg4 arg5 harg5 hc0 x0 k (ix2 r j)
      = BitVec.setWidth 32 (BitVec.ofBool (decide (∃ p : Fin 1280, p.val < 8 * k ∧ p.val % 8 = r.val ∧ (x0 (ix2 p (0 : Fin 128)) : BitVec 32) = BitVec.ofNat 32 j.val))) := by
  induction k with
  | zero =>
    rw [decide_eq_false (fun ⟨p, h, _⟩ => by omega)]
    rfl
  | succ k ih =>
    have hT : k0_t1_loop.trips = 160 := by decide +kernel
    have hlt : k < k0_t1_loop.trips := by omega
    rw [show k + 1 = (⟨k, hlt⟩ : Fin k0_t1_loop.trips).val + 1 from rfl, marks_succ, pay2_apply, ih (by omega)]
    have hld : (View.ld x0 (Rect.unit (s := S1280x128) (k0_off1 ⟨k, hlt⟩) S8x1.size (k0_off1_inb i ⟨k, hlt⟩ hc0)) (ix2 r (0 : Fin 1)) : BitVec 32)
        = x0 (ix2 (⟨8 * k + r.val, by omega⟩ : Fin 1280) (0 : Fin 128)) := by
      unfold View.ld
      refine congrArg x0 (funext fun a => Fin.ext ?_)
      have h := congrFun (k0_off1_eq ⟨k, hlt⟩) a
      fin_cases a
      · show (k0_off1 ⟨k, hlt⟩) 0 + 1 * r.val = 8 * k + r.val
        rw [show (k0_off1 ⟨k, hlt⟩) 0 = 8 * k from h]; omega
      · show (k0_off1 ⟨k, hlt⟩) 1 + 1 * 0 = 0
        rw [show (k0_off1 ⟨k, hlt⟩) 1 = 0 from h]
    rw [hld, WordCmp.cmpi_eq_eq]
    have hori : ∀ a b : Bool, IntOp.ori (BitVec.setWidth 32 (BitVec.ofBool a)) (BitVec.setWidth 32 (BitVec.ofBool b)) = BitVec.setWidth 32 (BitVec.ofBool (a || b)) := by decide
    rw [hori, ← Bool.decide_or]
    refine congrArg (fun b => BitVec.setWidth 32 (BitVec.ofBool b)) (decide_eq_decide.2 ⟨?_, ?_⟩)
    · rintro (⟨p, h1, h2, h3⟩ | h)
      · exact ⟨p, by dsimp only; omega, h2, h3⟩
      · exact ⟨⟨8 * k + r.val, by omega⟩, by dsimp only; omega, by dsimp only; omega, h⟩
    · rintro ⟨p, h1, h2, h3⟩
      dsimp only at h1
      by_cases h : p.val < 8 * k
      · exact Or.inl ⟨p, h, h2, h3⟩
      · have : p = ⟨8 * k + r.val, by omega⟩ := Fin.ext (by dsimp only; omega)
        exact Or.inr (this ▸ h3)

/-- The mask built from the whole table is above one half at column `j`, on every row, exactly where the table holds `j`. -/
theorem mask_gt (c : Dev nD) (i : grid0.Coords) (arg2 : Memref sig .tc .vmem S1280x128 .i32) (harg2 : arg2.IsWhole) (arg3 : Memref sig .tc .vmem S1x512x4096 .f32) (harg3 : arg3.IsWhole)
    (arg4 : Memref sig .tc .vmem S1x512x4096 .f32) (harg4 : arg4.IsWhole) (arg5 : Memref sig .tc .vmem S8x4096 .f32) (harg5 : arg5.IsWhole)
    (hc0 : cond0_0 i) (x0 : Vec Ideal S1280x128 .i32) (r : Fin 8) (j : Fin 4096) :
    Ideal.ofBits .f32 0x3F000000#32 < (k0_pay3 (F := Ideal) (marks c i arg2 harg2 arg3 harg3 arg4 harg4 arg5 harg5 hc0 x0 k0_t1_loop.trips) (ix2 r j) : EReal)
      ↔ ∃ p : Fin 1280, (x0 (ix2 p (0 : Fin 128)) : BitVec 32) = BitVec.ofNat 32 j.val := by
  rw [pay3_gt]
  have hT : k0_t1_loop.trips = 160 := by decide +kernel
  have hpos : ∀ b : Bool, 0 < (BitVec.setWidth 32 (BitVec.ofBool b)).toInt ↔ b = true := by decide
  simp only [marks_apply c i arg2 harg2 arg3 harg3 arg4 harg4 arg5 harg5 hc0 x0 _ j k0_t1_loop.trips hT.le, hpos, decide_eq_true_eq]
  constructor
  · rintro ⟨_, p, _, _, h⟩
    exact ⟨p, h⟩
  · rintro ⟨p, h⟩
    exact ⟨⟨p.val % 8, by omega⟩, p, by rw [hT]; exact p.isLt, rfl, h⟩

end Cert.KernelIdeal.Flip

end
-- ==== Proof.Final.lean ====
/-
  What the kernel's result array holds: the image with the columns of channel 0 that are sites flipped to `1 - x`.
-/
module

public import proofs.«01_k».proof.Proof.Mask

@[expose] public section

noncomputable section

open Idealize.ShloMosaic Idealize.ShloMosaic.TcCoe Idealize.SL.Sem

namespace Cert.KernelIdeal.Flip

open Cert.KernelIdeal Cert.KernelIdeal.Gen

variable (m : (ℓ : Loc nD τ sig) → Buf (Elt Ideal) ℓ)

/-- The sites argument, as an array of 1228 words. -/
abbrev sites (c : Dev nD) : IVec S1228 32 := m (c, main_arg1)

/-- The image argument. -/
abbrev image (c : Dev nD) : FVec Ideal S3x4096x4096 .f32 := m (c, main_arg0)

/-- The table the host lays out, as the operations that make it. -/
theorem V_main_v3 (c : Dev nD) :
    (V m c main_v3 : IVec S1280x128 32)
      = broadcastInDim S1280x128 ![0, 1] bcast_S1280x1_S1280x128_0_1 (broadcastInDim S1280x1 ![0] bcast_S1280_S1280x1_0
          (concatenate S1280 0 [⟨S1228, sites m c⟩, ⟨S52, broadcastInDim S52 ![] bcast_S_S52 (constantI S_ 32 4096#32)⟩] concatenates_S1228_S52_S1280_d0)) := by
  unfold_abbrev_sides
  after_results

/-- The table's entries: every row holds one word, the sites first and then 4096s. -/
theorem V_table (c : Dev nD) (p : Fin 1280) (q : Fin 128) :
    (V m c main_v3 (ix2 p q) : BitVec 32) = if h : p.val < 1228 then sites m c (ix1 (⟨p.val, h⟩ : Fin 1228)) else 4096#32 := by
  rw [V_main_v3]
  simp only [pointwise]
  rfl

/-- Input window 0 is the whole table at every point. -/
theorem iblk0 (c : Dev nD) (t : Fin cfg0.N) : (iblk m c 0 t : Vec Ideal S1280x128 .i32) = V m c main_v3 := by
  unfold iblk
  have h : ∀ t : Fin cfg0.N, win0_0.index t (0 : Fin 2) = 0 ∧ win0_0.index t (1 : Fin 2) = 0 := (by decide +kernel : ∀ t : Fin grid0.N, _)
  funext y
  refine congrArg (V m c main_v3) (funext fun a => Fin.ext ?_)
  match a with
  | ⟨0, _⟩ =>
    show win0_0.index t (0 : Fin 2) * 1280 + 1 * (y 0).val = (y 0).val
    rw [(h t).1]; omega
  | ⟨1, _⟩ =>
    show win0_0.index t (1 : Fin 2) * 128 + 1 * (y 1).val = (y 1).val
    rw [(h t).2]; omega

/-- Input window 1 at point `t` is block `t` of the image: the element at `i`'s place in the block is the image's at `i`. -/
theorem iblk1 (c : Dev nD) (t : Fin cfg0.N) (i : S3x4096x4096.Idx) (h : Value.pt2Of i = t.val) :
    (iblk m c 1 t : Vec Ideal S1x512x4096 .f32) (Value.loc2Of i) = image m c i := by
  have e : ∀ t : Fin cfg0.N, win0_1.index t (0 : Fin 3) = t.val / 8 ∧ win0_1.index t (1 : Fin 3) = t.val % 8 ∧ win0_1.index t (2 : Fin 3) = 0 :=
    (by decide +kernel : ∀ t : Fin grid0.N, _)
  obtain ⟨e0, e1, e2⟩ := e t
  have h' : 8 * ((i 0).val / 1 - 0) + 1 * ((i 1).val / 512 - 0) + 1 * ((i 2).val / 4096 - 0) = t.val := h
  have h0 : (i 0).val < 3 := (i 0).isLt
  have h1 : (i 1).val < 4096 := (i 1).isLt
  have h2 : (i 2).val < 4096 := (i 2).isLt
  unfold iblk
  show V m c main_arg0 _ = _
  rw [V_main_arg0]
  refine congrArg (image m c) (funext fun a => Fin.ext ?_)
  match a with
  | ⟨0, _⟩ =>
    show win0_1.index t (0 : Fin 3) * 1 + 1 * ((i 0).val % 1) = (i 0).val
    rw [e0]; omega
  | ⟨1, _⟩ =>
    show win0_1.index t (1 : Fin 3) * 512 + 1 * ((i 1).val % 512) = (i 1).val
    rw [e1]; omega
  | ⟨2, _⟩ =>
    show win0_1.index t (2 : Fin 3) * 4096 + 1 * ((i 2).val % 4096) = (i 2).val
    rw [e2, Nat.mod_eq_of_lt h2, Nat.zero_mul, Nat.zero_add, Nat.one_mul]

/-- The table holds column `j` exactly when one of the sites is `j`: the words that fill it up are 4096, no column. -/
theorem table_holds (c : Dev nD) (j : Fin 4096) :
    (∃ p : Fin 1280, (V m c main_v3 (ix2 p (0 : Fin 128)) : BitVec 32) = BitVec.ofNat 32 j.val) ↔ ∃ n : Fin 1228, sites m c (ix1 n) = BitVec.ofNat 32 j.val := by
  constructor
  · rintro ⟨p, h⟩
    replace h := (V_table m c p (0 : Fin 128)).symm.trans h
    by_cases hp : p.val < 1228
    · rw [dif_pos hp] at h
      exact ⟨_, h⟩
    · rw [dif_neg hp] at h
      have := congrArg BitVec.toNat h
      rw [BitVec.toNat_ofNat, BitVec.toNat_ofNat, Nat.mod_eq_of_lt (by decide), Nat.mod_eq_of_lt (by omega)] at this
      omega
  · rintro ⟨n, h⟩
    exact ⟨⟨n.val, by omega⟩, (V_table m c _ _).trans (by rw [dif_pos n.isLt]; exact h)⟩

/-- After each of the first eight points the scratch is above one half, on its first row, exactly at the columns that are sites. -/
theorem scratch_gt (c : Dev nD) (j : Fin 4096) : ∀ (n : ℕ) (hn : n < cfg0.N), n < 8 →
    (Ideal.ofBits .f32 0x3F000000#32 < ((outsAt0 m c n hn).2 (ix2 (0 : Fin 8) j) : EReal) ↔ ∃ s : Fin 1228, sites m c (ix1 s) = BitVec.ofNat 32 j.val)
  | 0, hn, _ => by
    rw [show outsAt0 m c 0 hn = _ from outsAt0_A m c ⟨0, hn⟩ rfl (by dsimp only; omega) (by dsimp only; omega), ← table_holds m c j]
    dsimp only
    rw [sout_A, mask_gt, iblk0]
  | n + 1, hn, h8 => by
    rw [show outsAt0 m c (n + 1) hn = _ from outsAt0_B m c ⟨n + 1, hn⟩ (by dsimp only; omega) h8 (by dsimp only; omega)]
    exact scratch_gt c j n (Nat.lt_of_succ_lt hn) (by omega)

/-- What the kernel's result holds: on channel 0 the columns that are sites are flipped to `1 - x`; everything else is the image. -/
def flipped (x : FVec Ideal S3x4096x4096 .f32) (s : IVec S1228 32) : FVec Ideal S3x4096x4096 .f32 := fun i =>
  open Classical in
  if (i 0).val = 0 ∧ ∃ n : Fin 1228, s (ix1 n) = BitVec.ofNat 32 (i 2).val then (1 : EReal) - x i else x i

/-- The result array of the launch is the flipped image. -/
theorem G2_eq (c : Dev nD) : Value.G2 m c = flipped (image m c) (sites m c) := by
  funext i
  have h0 : (i 0).val < 3 := (i 0).isLt
  have h1 : (i 1).val < 4096 := (i 1).isLt
  have h2 : (i 2).val < 4096 := (i 2).isLt
  have hN : cfg0.N = 24 := N_0
  have hlt : Value.pt2Of i < cfg0.N := by rw [hN]; show 8 * ((i 0).val / 1 - 0) + 1 * ((i 1).val / 512 - 0) + 1 * ((i 2).val / 4096 - 0) < 24; omega
  have hpt : (i 0).val = 0 ↔ Value.pt2Of i < 8 := by show _ ↔ 8 * ((i 0).val / 1 - 0) + 1 * ((i 1).val / 512 - 0) + 1 * ((i 2).val / 4096 - 0) < 8; omega
  unfold Value.G2
  rw [dif_pos hlt, ← Value.outsAt0_sweep m c _ hlt]
  have hx := iblk1 m c ⟨Value.pt2Of i, hlt⟩ i rfl
  have hloc : Value.loc2Of i = ix3 (⟨(i 0).val % 1, by omega⟩ : Fin 1) (⟨(i 1).val % 512, by omega⟩ : Fin 512) (⟨(i 2).val, h2⟩ : Fin 4096) := by
    funext a
    match a with
    | ⟨0, _⟩ => rfl
    | ⟨1, _⟩ => rfl
    | ⟨2, _⟩ => exact Fin.ext (Nat.mod_eq_of_lt h2)
  unfold flipped
  by_cases h8 : Value.pt2Of i < 8
  · have key : ∀ (xs : Vec Ideal S8x4096 .f32),
        (Ideal.ofBits .f32 0x3F000000#32 < (xs (ix2 (0 : Fin 8) (⟨(i 2).val, h2⟩ : Fin 4096)) : EReal) ↔ ∃ n : Fin 1228, sites m c (ix1 n) = BitVec.ofNat 32 (i 2).val) →
        k0_pay4 (F := Ideal) (row0 xs) (iblk m c 1 ⟨Value.pt2Of i, hlt⟩) (Value.loc2Of i)
          = (open Classical in if (i 0).val = 0 ∧ ∃ n : Fin 1228, sites m c (ix1 n) = BitVec.ofNat 32 (i 2).val then (1 : EReal) - image m c i else image m c i) := by
      intro xs hxs
      rw [hloc, pay4_apply, ← hloc, hx]
      have hrow : row0 xs (ix2 (0 : Fin 1) (⟨(i 2).val, h2⟩ : Fin 4096)) = xs (ix2 (0 : Fin 8) (⟨(i 2).val, h2⟩ : Fin 4096)) := by
        refine congrArg xs (funext fun a => Fin.ext ?_)
        match a with
        | ⟨0, _⟩ => rfl
        | ⟨1, _⟩ => show 0 + 1 * (i 2).val = (i 2).val; omega
      rw [hrow]
      simp only [hxs, hpt.2 h8, true_and]
    by_cases hz : Value.pt2Of i = 0
    · have hs := scratch_gt m c ⟨(i 2).val, h2⟩ (Value.pt2Of i) hlt h8
      rw [outsAt0_A m c ⟨Value.pt2Of i, hlt⟩ (by dsimp only; omega) h8 (by dsimp only; omega)] at hs ⊢
      dsimp only at hs ⊢
      rw [sout_A] at hs
      rw [out_A]
      exact key _ hs
    · have hs := scratch_gt m c ⟨(i 2).val, h2⟩ (Value.pt2Of i - 1) (by omega) (by omega)
      rw [outsAt0_B m c ⟨Value.pt2Of i, hlt⟩ (by dsimp only; omega) h8 (by dsimp only; omega)]
      dsimp only
      rw [out_B]
      exact key _ hs
  · rw [outsAt0_C m c ⟨Value.pt2Of i, hlt⟩ (by dsimp only; omega) h8 (by dsimp only; omega)]
    dsimp only
    rw [out_C, hx, if_neg fun h => h8 (hpt.1 h.1)]

end Cert.KernelIdeal.Flip

end
-- ==== Proof.Reference.lean ====
/-
  What the reference computes: its gather reads, and its scatter overwrites, the columns of channel 0 that are sites.
-/
module

public import proofs.«01_k».proof.Proof.Gen.ReferenceIdeal.Run
public import Idealize.ShloMosaic.Lib.Routing.OpsSet
public import Idealize.ShloMosaic.Lib.Pointwise
public import Idealize.ShloMosaic.Lib.IdealHost

@[expose] public section

noncomputable section

open Idealize.ShloMosaic Idealize.ShloMosaic.TcCoe Idealize.SL.Sem

namespace Cert.ReferenceIdeal.Flip

open Cert.ReferenceIdeal Cert.ReferenceIdeal.Gen

/-- The scatter's dimension numbers. -/
abbrev dS := scatter_S3x4096x4096_S1228x2_S1228x4096_1_02_02_1

/-- The gather's dimension numbers. -/
abbrev dG := gather_S3x4096x4096_S1228x2_S1228x4096_1_02_n_n_02_1_140961

/-- The pairs of indices the reference reads and writes at: channel 0 and the site, a negative site counted from the right edge. -/
abbrev pairs (s : IVec S1228 32) : IVec S1228x2 32 :=
  concatenate S1228x2 1 [⟨S1228x1, (broadcastInDim S1228x1 ![0] bcast_S1228_S1228x1_0 (id (broadcastInDim S1228 ![] bcast_S_S1228 (constantI S_ 32 0#32))))⟩,
    ⟨S1228x1, (broadcastInDim S1228x1 ![0] bcast_S1228_S1228x1_0 (select (cmpi .slt s (broadcastInDim S1228 ![] bcast_S_S1228 (constantI S_ 32 0#32)))
      (addi s (broadcastInDim S1228 ![] bcast_S_S1228 (constantI S_ 32 4096#32))) s))⟩] concatenates_S1228x1_S1228x1_S1228x2_d1

/-- The first word of every pair is channel 0. -/
theorem pairs_zero (s : IVec S1228 32) (n : Fin 1228) : pairs s (ix2 n (0 : Fin 2)) = 0#32 := rfl

/-- The second word of every pair is the site, where the site is not negative. -/
theorem pairs_one (s : IVec S1228 32) (n : Fin 1228) (h : (s (ix1 n)).toNat < 2 ^ 31) : pairs s (ix2 n (1 : Fin 2)) = s (ix1 n) := by
  have e : ∃ q : S1228.Idx, q = ix1 n ∧ pairs s (ix2 n (1 : Fin 2)) = Scalar.select (IntOp.cmpi .slt (s q) 0#32) (IntOp.addi (s q) 4096#32) (s q) := by
    refine ⟨_, ?_, rfl⟩
    funext a
    match a with
    | ⟨0, _⟩ => rfl
  obtain ⟨q, rfl, e⟩ := e
  rw [e, Routing.wrap_of_lt _ _ h]

/-- Update `(n, h)` lands at the element whose coordinates are pair `n`'s first word, `h` and pair `n`'s second word, read signed. -/
theorem lands (idx : IVec S1228x2 32) (k : S1228x4096.Idx) (ι : S3x4096x4096.Idx) :
    dS.resultIdx? k idx = some ι
      ↔ (idx (ix2 (k 0 : Fin 1228) (0 : Fin 2))).toInt = (ι 0).val ∧ (k 1).val = (ι 1).val ∧ (idx (ix2 (k 0 : Fin 1228) (1 : Fin 2))).toInt = (ι 2).val := by
  have s0 : dS.start k idx 0 = (idx (ix2 (k 0 : Fin 1228) (0 : Fin 2))).toInt := by
    refine congrArg (fun q => (idx q).toInt) ?_
    funext a
    match a with
    | ⟨0, _⟩ => rfl
    | ⟨1, _⟩ => rfl
  have s1 : dS.start k idx 1 = 0 := rfl
  have s2 : dS.start k idx 2 = (idx (ix2 (k 0 : Fin 1228) (1 : Fin 2))).toInt := by
    refine congrArg (fun q => (idx q).toInt) ?_
    funext a
    match a with
    | ⟨0, _⟩ => rfl
    | ⟨1, _⟩ => rfl
  have w0 : dS.window k 0 = 0 := rfl
  have w1 : dS.window k 1 = (k 1).val := rfl
  have w2 : dS.window k 2 = 0 := rfl
  rw [Routing.resultIdx?_eq_some]
  constructor
  · intro h
    have h0 := h 0
    have h1 := h 1
    have h2 := h 2
    rw [s0, w0] at h0
    rw [s1, w1] at h1
    rw [s2, w2] at h2
    exact ⟨by omega, by omega, by omega⟩
  · rintro ⟨h0, h1, h2⟩ a
    match a with
    | ⟨0, _⟩ => show dS.start k idx 0 + (dS.window k 0 : Int) = _; rw [s0, w0, h0]; rfl
    | ⟨1, _⟩ => show dS.start k idx 1 + (dS.window k 1 : Int) = _; rw [s1, w1, h1]; exact Int.zero_add _
    | ⟨2, _⟩ => show dS.start k idx 2 + (dS.window k 2 : Int) = _; rw [s2, w2, h2]; rfl

/-- Where update `k` lands at `ι`, the gather has read the operand at `ι`. -/
theorem gather_of_lands {α : Type} (x : S3x4096x4096.Idx → α) (idx : IVec S1228x2 32) (k : S1228x4096.Idx) (ι : S3x4096x4096.Idx)
    (h : dS.resultIdx? k idx = some ι) : Host.gather dG x idx k = x ι := by
  obtain ⟨h0, h1, h2⟩ := (lands idx k ι).1 h
  have i0 : (ι 0).val < 3 := (ι 0).isLt
  have i2 : (ι 2).val < 4096 := (ι 2).isLt
  unfold Host.gather
  have s0 : dG.start k idx 0 = min (idx (ix2 (k 0 : Fin 1228) (0 : Fin 2))).toInt.toNat 2 := by
    refine congrArg (fun q => min (idx q).toInt.toNat 2) ?_
    funext a
    match a with
    | ⟨0, _⟩ => rfl
    | ⟨1, _⟩ => rfl
  have s1 : dG.start k idx 1 = 0 := rfl
  have s2 : dG.start k idx 2 = min (idx (ix2 (k 0 : Fin 1228) (1 : Fin 2))).toInt.toNat 4095 := by
    refine congrArg (fun q => min (idx q).toInt.toNat 4095) ?_
    funext a
    match a with
    | ⟨0, _⟩ => rfl
    | ⟨1, _⟩ => rfl
  have o0 : dG.offCoord k 0 = 0 := rfl
  have o1 : dG.offCoord k 1 = (k 1).val := rfl
  have o2 : dG.offCoord k 2 = 0 := rfl
  have b : ∀ a, dG.batchCoord k a = 0 := fun a => dG.batchCoord_eq_zero k a List.not_mem_nil
  refine congrArg x (funext fun a => Fin.ext ?_)
  match a with
  | ⟨0, _⟩ =>
    show dG.start k idx 0 + dG.batchCoord k 0 + dG.offCoord k 0 = (ι 0).val
    rw [s0, b, o0, h0]; omega
  | ⟨1, _⟩ =>
    show dG.start k idx 1 + dG.batchCoord k 1 + dG.offCoord k 1 = (ι 1).val
    rw [s1, b, o1, h1]; omega
  | ⟨2, _⟩ =>
    show dG.start k idx 2 + dG.batchCoord k 2 + dG.offCoord k 2 = (ι 2).val
    rw [s2, b, o2, h2]; omega

/-- What the reference computes, at sites none of which is negative: on channel 0 the columns that are sites hold `1 - x`; everything else is as it was. -/
theorem reference_apply (x : FVec Ideal S3x4096x4096 .f32) (s : IVec S1228 32) (hs : ∀ n : Fin 1228, (s (ix1 n)).toNat < 2 ^ 31) (i : S3x4096x4096.Idx) :
    Host.scatter dS (fun _ b => b) x (pairs s) (subf (broadcastInDim S1228x4096 ![] bcast_S_S1228x4096 (constant S_ .f32 0x3F800000#32)) (Host.gather dG x (pairs s))) i
      = (open Classical in if (i 0).val = 0 ∧ ∃ n : Fin 1228, s (ix1 n) = BitVec.ofNat 32 (i 2).val then (1 : EReal) - x i else x i) := by
  have i2 : (i 2).val < 4096 := (i 2).isLt
  have hword : ∀ n : Fin 1228, (pairs s (ix2 n (1 : Fin 2))).toInt = (i 2).val ↔ s (ix1 n) = BitVec.ofNat 32 (i 2).val := by
    intro n
    rw [pairs_one s n (hs n), WordCmp.toInt_eq_toNat_of_lt_half (hs n)]
    constructor
    · intro h
      apply BitVec.eq_of_toNat_eq
      rw [BitVec.toNat_ofNat, Nat.mod_eq_of_lt (by omega)]
      omega
    · intro h
      rw [h, BitVec.toNat_ofNat, Nat.mod_eq_of_lt (by omega)]
  by_cases h : (i 0).val = 0 ∧ ∃ n : Fin 1228, s (ix1 n) = BitVec.ofNat 32 (i 2).val
  · rw [if_pos h]
    obtain ⟨h0, n, hn⟩ := h
    refine Routing.scatter_set_hit dS x _ _ i _ (fun k hk => ?_) (ix2 n (i 1 : Fin 4096)) ((lands _ _ i).2 ⟨?_, rfl, (hword n).2 hn⟩)
    · show Ideal.ofBits .f32 0x3F800000#32 - Host.gather dG x (pairs s) k = 1 - x i
      rw [gather_of_lands x _ k i hk, Ideal.ofBits_one_f32]
    · show (pairs s (ix2 n (0 : Fin 2))).toInt = _
      rw [pairs_zero, h0]
      rfl
  · rw [if_neg h]
    refine Routing.scatter_set_miss dS x _ _ i fun k hk => h ?_
    obtain ⟨h0, _, h2⟩ := (lands _ k i).1 hk
    have z : ((0 : ℤ)) = (i 0).val := (congrArg BitVec.toInt (pairs_zero s (k 0))).symm.trans h0
    exact ⟨by omega, k 0, (hword (k 0)).1 h2⟩

end Cert.ReferenceIdeal.Flip

end
-- ==== Proof.lean ====
/-
  The proof of `Cert.Claim` (proofs.«01_k».proof.Defs). The frames are the generated ones. For the value, the kernel's generated run leaves its result array at
  `Value.G2`, which Proof/Final.lean shows to be `flipped`, the image with channel 0's listed columns at `1 - x`; Proof/Reference.lean shows the reference's scatter
  of `1 - gather` to be the same array where no site is negative.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Final
public import proofs.«01_k».proof.Proof.Reference

@[expose] public section

noncomputable section

namespace Cert.Proof

open Idealize.ShloMosaic Idealize.SL.Sem

/-- The predicate's one shape relation: a scalar spreads over the sites. -/
theorem pre_facts : Cert.Pre_sites_count_from_zero.Facts := ⟨by decide⟩

/-- The reference runs, keeps its arguments and leaves every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- What the precondition says of a site: read as an unsigned word, it lies below `2 ^ 31`. -/
theorem site_lt (x : FVec Ideal Cert.KernelIdeal.S3x4096x4096 .f32) (s : IVec Cert.KernelIdeal.S1228 32)
    (h : letI := pre_facts; Cert.Pre_sites_count_from_zero.fn (F := Ideal) x s = fun _ => 1#1) (n : Fin 1228) : (s (ix1 n)).toNat < 2 ^ 31 := by
  have hn : IntOp.cmpi .sge (s (ix1 n)) 0#32 = 1#1 := congrFun h (ix1 n)
  rw [WordCmp.cmpi_sge_zero, WordCmp.ofBool_decide_eq_one_iff] at hn
  exact hn

/-- At sites none of which is negative, the kernel and the reference leave the same result. -/
theorem algebraic_flip : letI := pre_facts; algebraic_KernelIdeal_ReferenceIdeal_pre_sites_count_from_zero := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨h0, h1⟩ := hagree c
  have hs : ∀ n : Fin 1228, ((m' (c.tc.loc Cert.ReferenceIdeal.main_arg1) : IVec Cert.KernelIdeal.S1228 32) (ix1 n)).toNat < 2 ^ 31 := by
    rw [h1]
    exact site_lt _ _ (hpre c)
  have hk : Cert.KernelIdeal.Value.G2 m c
      = Cert.KernelIdeal.Flip.flipped (m' (c.tc.loc Cert.ReferenceIdeal.main_arg0)) (m' (c.tc.loc Cert.ReferenceIdeal.main_arg1)) := by
    rw [h0, h1]
    exact Cert.KernelIdeal.Flip.G2_eq m c
  exact ((h c).1.trans (funext fun i => Cert.ReferenceIdeal.Flip.reference_apply _ _ hs i)).trans hk.symm

/-- The certificate. -/
theorem claim : Cert.Claim := ⟨Cert.Kernel.Gen.facts, Cert.KernelIdeal.Gen.facts, Cert.ReferenceIdeal.Gen.facts, pre_facts,
  fun m ρ _ => Cert.Kernel.Gen.frame m ρ, fun m ρ _ => Cert.KernelIdeal.Gen.frame m ρ, fun m ρ _ => Cert.KernelIdeal.Gen.frame m ρ,
  quiescent_ReferenceIdeal, fun m ρ _ => quiescent_ReferenceIdeal m ρ trivial, (trivial : preserves_Kernel_KernelIdeal), algebraic_flip⟩

end Cert.Proof

end
